-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x3584 : Shape := ⟨3, ![1, 8192, 3584]⟩
abbrev S3584x18944 : Shape := ⟨2, ![3584, 18944]⟩
abbrev S18944 : Shape := ⟨1, ![18944]⟩
abbrev S_ : Shape := ⟨0, ![]⟩
abbrev S1x1 : Shape := ⟨2, ![1, 1]⟩
abbrev S8192x3584 : Shape := ⟨2, ![8192, 3584]⟩
abbrev S256x3584 : Shape := ⟨2, ![256, 3584]⟩
abbrev S1x18944 : Shape := ⟨2, ![1, 18944]⟩
abbrev S8192x18944 : Shape := ⟨2, ![8192, 18944]⟩
abbrev S2048x3584 : Shape := ⟨2, ![2048, 3584]⟩
abbrev S3584x512 : Shape := ⟨2, ![3584, 512]⟩
abbrev S1x512 : Shape := ⟨2, ![1, 512]⟩
abbrev S2048x512 : Shape := ⟨2, ![2048, 512]⟩
abbrev S1x8192x18944 : Shape := ⟨3, ![1, 8192, 18944]⟩

abbrev nBuf : Space → Nat
  | .hbm => 13
  | .vmem => 14
  | .smem => 2
  | _ => 0

abbrev bufTy : (tb : Table) → Fin (tcTables nBuf tb) → BufTy
  | .hbm, ⟨0, _⟩ => ⟨S1x8192x3584, .bf16⟩
  | .hbm, ⟨1, _⟩ => ⟨S3584x18944, .fp8e4m3⟩
  | .hbm, ⟨2, _⟩ => ⟨S18944, .f32⟩
  | .hbm, ⟨3, _⟩ => ⟨S_, .f32⟩
  | .hbm, ⟨4, _⟩ => ⟨S18944, .bf16⟩
  | .hbm, ⟨5, _⟩ => ⟨S1x1, .f32⟩
  | .hbm, ⟨6, _⟩ => ⟨S8192x3584, .bf16⟩
  | .hbm, ⟨7, _⟩ => ⟨S8192x3584, .fp8e4m3⟩
  | .hbm, ⟨8, _⟩ => ⟨S1x18944, .f32⟩
  | .hbm, ⟨9, _⟩ => ⟨S1x18944, .bf16⟩
  | .hbm, ⟨10, _⟩ => ⟨S8192x18944, .bf16⟩
  | .hbm, ⟨11, _⟩ => ⟨S1x8192x18944, .bf16⟩
  | .hbm, ⟨12, _⟩ => ⟨S1x8192x3584, .fp8e4m3⟩
  | .local _ .vmem, ⟨0, _⟩ => ⟨S256x3584, .bf16⟩
  | .local _ .vmem, ⟨1, _⟩ => ⟨S256x3584, .bf16⟩
  | .local _ .vmem, ⟨2, _⟩ => ⟨S256x3584, .fp8e4m3⟩
  | .local _ .vmem, ⟨3, _⟩ => ⟨S256x3584, .fp8e4m3⟩
  | .local _ .vmem, ⟨4, _⟩ => ⟨S2048x3584, .fp8e4m3⟩
  | .local _ .vmem, ⟨5, _⟩ => ⟨S2048x3584, .fp8e4m3⟩
  | .local _ .vmem, ⟨6, _⟩ => ⟨S3584x512, .fp8e4m3⟩
  | .local _ .vmem, ⟨7, _⟩ => ⟨S3584x512, .fp8e4m3⟩
  | .local _ .vmem, ⟨8, _⟩ => ⟨S1x512, .f32⟩
  | .local _ .vmem, ⟨9, _⟩ => ⟨S1x512, .f32⟩
  | .local _ .vmem, ⟨10, _⟩ => ⟨S1x512, .bf16⟩
  | .local _ .vmem, ⟨11, _⟩ => ⟨S1x512, .bf16⟩
  | .local _ .vmem, ⟨12, _⟩ => ⟨S2048x512, .bf16⟩
  | .local _ .vmem, ⟨13, _⟩ => ⟨S2048x512, .bf16⟩
  | .local _ .smem, ⟨0, _⟩ => ⟨S1x1, .f32⟩
  | .local _ .smem, ⟨1, _⟩ => ⟨S1x1, .f32⟩
  | _, _ => ⟨S1x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 37], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x3584 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S3584x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S1x8192x3584 : Shape := ⟨3, ![1, 8192, 3584]⟩
abbrev S3584x18944 : Shape := ⟨2, ![3584, 18944]⟩
abbrev S18944 : Shape := ⟨1, ![18944]⟩
abbrev S_ : Shape := ⟨0, ![]⟩
abbrev S1x1 : Shape := ⟨2, ![1, 1]⟩
abbrev S8192x3584 : Shape := ⟨2, ![8192, 3584]⟩
abbrev S1x18944 : Shape := ⟨2, ![1, 18944]⟩
abbrev S8192x18944 : Shape := ⟨2, ![8192, 18944]⟩
abbrev S1x8192x18944 : Shape := ⟨3, ![1, 8192, 18944]⟩

abbrev nBuf : Space → Nat
  | .hbm => 13
  | .vmem => 6
  | .smem => 1
  | _ => 0

abbrev bufTy : (tb : Table) → Fin (tcTables nBuf tb) → BufTy
  | .hbm, ⟨0, _⟩ => ⟨S1x8192x3584, .bf16⟩
  | .hbm, ⟨1, _⟩ => ⟨S3584x18944, .fp8e4m3⟩
  | .hbm, ⟨2, _⟩ => ⟨S18944, .f32⟩
  | .hbm, ⟨3, _⟩ => ⟨S_, .f32⟩
  | .hbm, ⟨4, _⟩ => ⟨S18944, .bf16⟩
  | .hbm, ⟨5, _⟩ => ⟨S1x1, .f32⟩
  | .hbm, ⟨6, _⟩ => ⟨S8192x3584, .bf16⟩
  | .hbm, ⟨7, _⟩ => ⟨S1x18944, .f32⟩
  | .hbm, ⟨8, _⟩ => ⟨S1x18944, .bf16⟩
  | .hbm, ⟨9, _⟩ => ⟨S8192x18944, .bf16⟩
  | .hbm, ⟨10, _⟩ => ⟨S8192x3584, .fp8e4m3⟩
  | .hbm, ⟨11, _⟩ => ⟨S1x8192x18944, .bf16⟩
  | .hbm, ⟨12, _⟩ => ⟨S1x8192x3584, .fp8e4m3⟩
  | .local _ .vmem, ⟨0, _⟩ => ⟨S8192x3584, .bf16⟩
  | .local _ .vmem, ⟨1, _⟩ => ⟨S3584x18944, .fp8e4m3⟩
  | .local _ .vmem, ⟨2, _⟩ => ⟨S1x18944, .f32⟩
  | .local _ .vmem, ⟨3, _⟩ => ⟨S1x18944, .bf16⟩
  | .local _ .vmem, ⟨4, _⟩ => ⟨S8192x18944, .bf16⟩
  | .local _ .vmem, ⟨5, _⟩ => ⟨S8192x3584, .fp8e4m3⟩
  | .local _ .smem, ⟨0, _⟩ => ⟨S1x1, .f32⟩
  | _, _ => ⟨S1x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x18944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
/-
  The two results as functions of the argument arrays, index by index, over the extended reals. Both programs are
  shown to end with these (KernelRun.lean, RefValue.lean); a cast to a narrower format is the identity there.
-/
module

public import Idealize.ShloMosaic.Lib.Pipeline.Value
public import Idealize.ShloMosaic.Lib.ValueIdx
public import Idealize.ShloMosaic.PureOps.Ideal.Laws

@[expose] public section

noncomputable section

open Idealize.ShloMosaic Idealize.ShloMosaic.ValueIdx

namespace Cert.Spec

/-- The code of one activation `x` at scale `s`: `x / s` clipped to ±448. -/
def code (s x : EReal) : EReal :=
  min (Ideal.ofBits .f32 0x43E00000#32) (max (Ideal.ofBits .f32 0xC3E00000#32) (Ideal.div x s))

/-- One entry of the product, scaled and shifted: the row `a` of codes against the weights' column `w` in one sum over
    the contracted axis, times the scale of the activations and the column's own, plus the column's bias. -/
def entry (a w : Fin 3584 → EReal) (s ws b : EReal) : EReal := (∑ k, a k * w k) * (s * ws) + b

/-- The array of codes, as a function of the activations and the scale. -/
def codesOf (x : (⟨3, ![1, 8192, 3584]⟩ : Shape).Idx → EReal) (s : (⟨0, ![]⟩ : Shape).Idx → EReal) :
    (⟨3, ![1, 8192, 3584]⟩ : Shape).Idx → EReal :=
  fun i => code (s ix0) (x (ix3 0 (i 1) (i 2)))

/-- The array of outputs, as a function of the activations, the weights, the columns' scales, the scale and the bias. -/
def outputsOf (x : (⟨3, ![1, 8192, 3584]⟩ : Shape).Idx → EReal) (w : (⟨2, ![3584, 18944]⟩ : Shape).Idx → EReal)
    (ws : (⟨1, ![18944]⟩ : Shape).Idx → EReal) (s : (⟨0, ![]⟩ : Shape).Idx → EReal) (b : (⟨1, ![18944]⟩ : Shape).Idx → EReal) :
    (⟨3, ![1, 8192, 18944]⟩ : Shape).Idx → EReal :=
  fun i => entry (fun k => code (s ix0) (x (ix3 0 (i 1) k))) (fun k => w (ix2 k (i 2))) (s ix0) (ws (ix1 (i 2))) (b (ix1 (i 2)))

/-- The two zeros in front of an index of a rank-two array, however they are spelt. -/
theorem zeros₂ : (![0, 0] : Fin 2 → Nat) = fun _ => 0 := funext fun a => by fin_cases a <;> rfl

/-- A one-by-one array has one index. -/
theorem one_idx {α : Type} (f : (⟨2, ![1, 1]⟩ : Shape).Idx → α) (i j : (⟨2, ![1, 1]⟩ : Shape).Idx) : f i = f j := by
  have hi0 := idx2_lt0 i; have hi1 := idx2_lt1 i; have hj0 := idx2_lt0 j; have hj1 := idx2_lt1 j
  exact congrArg f (Shape.idx_ext₂ (by omega) (by omega))

/-- A product into zeros at an index is one sum over the contracted axis, for dimension numbers that contract the left
    operand's columns with the right operand's rows. -/
theorem matmul_apply {M K N : Nat} {φ ψ : FTy} (D : DotDims ⟨2, ![M, K]⟩ ⟨2, ![K, N]⟩ ⟨2, ![M, N]⟩) (hr : D.contr.rank = 1)
    (hs : D.contr.size ⟨0, by omega⟩ = K)
    (l0 : ∀ j k, (D.lhsIdx j k 0 : ℕ) = j 0) (l1 : ∀ j k, (D.lhsIdx j k 1 : ℕ) = k ⟨0, by omega⟩)
    (r0 : ∀ j k, (D.rhsIdx j k 0 : ℕ) = k ⟨0, by omega⟩) (r1 : ∀ j k, (D.rhsIdx j k 1 : ℕ) = j 1)
    (a : FVec Ideal ⟨2, ![M, K]⟩ φ) (w : FVec Ideal ⟨2, ![K, N]⟩ ψ) (y : (⟨2, ![M, N]⟩ : Shape).Idx) :
    matmul D none a w (constant (F := Ideal) ⟨2, ![M, N]⟩ .f32 0x00000000#32) y = ∑ k : Fin K, a (ix2 (y 0) k) * w (ix2 k (y 1)) := by
  show Ideal.ofBits .f32 0x00000000#32 + ∑ k : D.contr.Idx, a (D.lhsIdx y k) * w (D.rhsIdx y k) = _
  rw [Ideal.ofBits_zero_f32, zero_add]
  refine (Equiv.sum_comp (contrEquiv1 D K hr hs).symm _).symm.trans (Finset.sum_congr rfl fun k _ => ?_)
  have hk := contrEquiv1_symm_val D K hr hs k
  rw [show D.lhsIdx y ((contrEquiv1 D K hr hs).symm k) = ix2 (y 0) k from
      Shape.idx_ext₂ (l0 y _) ((l1 y _).trans hk),
    show D.rhsIdx y ((contrEquiv1 D K hr hs).symm k) = ix2 k (y 1) from
      Shape.idx_ext₂ ((r0 y _).trans hk) (r1 y _)]
  rfl

end Cert.Spec

end
-- ==== Proof.Quant.lean ====
/-
  The first kernel of the program: the array of codes it leaves, as one function of the two arrays it is given.
-/
module

public import proofs.«01_k».proof.Proof.Gen.KernelIdeal.Frame
public import proofs.«01_k».proof.Proof.Spec

@[expose] public section

noncomputable section

open Idealize.ShloMosaic Idealize.ShloMosaic.TcCoe Idealize.SL.Sem
open Idealize.ShloMosaic.Pipeline (Dat)

namespace Cert.KernelIdeal.Quant

open Cert.KernelIdeal Cert.KernelIdeal.Gen Cert.Spec Idealize.ShloMosaic.ValueIdx

variable (V : (c : Dev nD) → (b : Ref sig .tc) → Buf (Elt Ideal) ((c : Thread nD τ).loc b))

/-- What the body stores, at an index: the code of the block's entry at the scale. -/
theorem pay_apply (x1 : Vec Ideal S256x3584 .bf16) (s : Elt Ideal .f32) (y : S256x3584.Idx) :
    k0_pay1 x1 s y = code s (x1 y) := by
  unfold k0_pay1
  rw [shapeCast_self]
  rfl

/-- What the body leaves in the staging buffer of the codes: its one store, of the loaded block at the loaded scale. -/
theorem out_eq (c : Dev nD) (t : Fin cfg0.N) (x0 : Vec Ideal S1x1 .f32) (x1 : Vec Ideal S256x3584 .bf16) :
    out0_A_2 c (grid0.coords t) (ms0_0 t) (hs0_0 t) (ms0_1 t) (hs0_1 t) (ms0_2 t) (hs0_2 t) x0 x1
      = k0_pay1 x1 (x0 (ix2 0 0)) := by
  unfold out0_A_2
  rw [View.read_writes_eq_canon _ _ _ (cover0_A_2 c (grid0.coords t) (ms0_0 t) (hs0_0 t) (ms0_1 t) (hs0_1 t) (ms0_2 t) (hs0_2 t) x0 x1)]
  unfold kernelRun0_A
  dsimp only
  rw [View.canon_unit_zero zeros₂]
  sl_unfold_words
  simp only [View.readAt_eq_ld, (hs0_1 t).read_unread, (hs0_0 t).read_unread]
  rw [View.ld_unit_zero zeros₂]
  exact congrArg (k0_pay1 x1) (one_idx x0 _ _)

/-- The array of codes as a function of the scale's array and the activations'. -/
def codes (s : S1x1.Idx → EReal) (x : S8192x3584.Idx → EReal) : S8192x3584.Idx → EReal :=
  fun i => code (s (ix2 0 0)) (x i)

/-- What point `t` writes back is its block of `codes`: a pointwise function of a block is the block of the function. -/
theorem flushed_eq (c : Dev nD) (t : Fin cfg0.N) :
    (dat0 V c).flushed 2 t = (win0_2.blk t).view.read (Elt Ideal) (codes (V c main_v0) (V c main_v1)) := by
  show (cfg0.win 2).cut (grid0.coords t) ((dat0 V c).after 2 t) = _
  rw [after0_2]
  unfold outsAt0
  rw [out_eq]
  funext y
  refine (pay_apply _ _ _).trans ?_
  exact congrArg (fun s => code s (iblk0 V c 1 t y)) (one_idx (V c main_v0) _ _)

/-- The block index of the codes' window at point `t`. -/
theorem idx_facts : ∀ t : Fin cfg0.N, win0_2.index t 0 = t.val ∧ win0_2.index t 1 = 0 :=
  (by decide +kernel : ∀ t : Fin grid0.N, _)

/-- An index of the codes is in point `t`'s block: one of its 256 rows. -/
theorem mem_blk (t : Fin cfg0.N) (i : S8192x3584.Idx) :
    i ∈ ((cfg0.win 2).blk t).view.set ↔ t.val * 256 ≤ (i 0 : Nat) ∧ (i 0 : Nat) < t.val * 256 + 256 := by
  show i ∈ ((View.whole main_v2).slice (win0_2.rect t)).set ↔ _
  rw [View.set_slice_whole, Rect.mem_set_unit]
  have h1 : (i 1 : Nat) < 3584 := (i 1).isLt
  have e := idx_facts t
  refine ⟨fun h => ?_, fun h a => ?_⟩
  · have : win0_2.index t 0 * 256 ≤ (i 0 : Nat) ∧ (i 0 : Nat) < win0_2.index t 0 * 256 + 256 := h 0
    rw [e.1] at this; exact this
  · match a with
    | ⟨0, _⟩ => show win0_2.index t 0 * 256 ≤ (i 0 : Nat) ∧ (i 0 : Nat) < win0_2.index t 0 * 256 + 256
                rw [e.1]; exact h
    | ⟨1, _⟩ => show win0_2.index t 1 * 3584 ≤ (i 1 : Nat) ∧ (i 1 : Nat) < win0_2.index t 1 * 3584 + 3584
                rw [e.2, Nat.zero_mul, Nat.zero_add]; exact ⟨Nat.zero_le _, h1⟩

/-- The 32 blocks of 256 rows tile the array. -/
theorem cover (i : S8192x3584.Idx) :
    ∃ t : Fin cfg0.N, (cfg0.win 2).flush t = true ∧ i ∈ ((cfg0.win 2).blk t).view.set := by
  have h0 : (i 0 : Nat) < 8192 := (i 0).isLt
  have hN : cfg0.N = 32 := N_0
  have ht : (i 0 : Nat) / 256 < cfg0.N := by rw [hN]; omega
  refine ⟨⟨(i 0 : Nat) / 256, ht⟩, flush0_2 _, ?_⟩
  rw [mem_blk]
  dsimp only
  omega

/-- The array the first kernel leaves, from any entry contents. -/
theorem final (c : Dev nD) : (dat0 V c).arrAt 2 cfg0.N = codes (V c main_v0) (V c main_v1) :=
  (dat0 V c).arrAt_eq_of_cover 2 _ (fun t _ => flushed_eq V c t) cover

end Cert.KernelIdeal.Quant

end
-- ==== Proof.Matmul.lean ====
/-
  The second kernel of the program: the array of products it leaves, as one function of the five arrays it is given.
-/
module

public import proofs.«01_k».proof.Proof.Gen.KernelIdeal.Frame
public import proofs.«01_k».proof.Proof.Spec

@[expose] public section

noncomputable section

open Idealize.ShloMosaic Idealize.ShloMosaic.TcCoe Idealize.SL.Sem
open Idealize.ShloMosaic.Pipeline (Dat)

namespace Cert.KernelIdeal.Matmul

open Cert.KernelIdeal Cert.KernelIdeal.Gen Cert.Spec Idealize.ShloMosaic.ValueIdx

variable (V : (c : Dev nD) → (b : Ref sig .tc) → Buf (Elt Ideal) ((c : Thread nD τ).loc b))

/-- The dimension numbers of the body's product, and the operands' indices coordinate by coordinate. -/
abbrev D := dot_S2048x3584_S3584x512_S2048x512_1_0_0_1_n_n

theorem lhs_0 (j : S2048x512.Idx) (k : D.contr.Idx) : (D.lhsIdx j k 0 : ℕ) = j 0 := by
  simp [DotDims.lhsIdx, D, dot_S2048x3584_S3584x512_S2048x512_1_0_0_1_n_n]; rfl
theorem lhs_1 (j : S2048x512.Idx) (k : D.contr.Idx) : (D.lhsIdx j k 1 : ℕ) = k ⟨0, by decide⟩ := by
  simp [DotDims.lhsIdx, D, dot_S2048x3584_S3584x512_S2048x512_1_0_0_1_n_n]; rfl
theorem rhs_0 (j : S2048x512.Idx) (k : D.contr.Idx) : (D.rhsIdx j k 0 : ℕ) = k ⟨0, by decide⟩ := by
  simp [DotDims.rhsIdx, D, dot_S2048x3584_S3584x512_S2048x512_1_0_0_1_n_n]; rfl
theorem rhs_1 (j : S2048x512.Idx) (k : D.contr.Idx) : (D.rhsIdx j k 1 : ℕ) = j 1 := by
  simp [DotDims.rhsIdx, D, dot_S2048x3584_S3584x512_S2048x512_1_0_0_1_n_n]; rfl

/-- What the body stores, at an index. -/
theorem pay_apply (a : Vec Ideal S2048x3584 .fp8e4m3) (w : Vec Ideal S3584x512 .fp8e4m3) (s : Elt Ideal .f32)
    (ws : Vec Ideal S1x512 .f32) (b : Vec Ideal S1x512 .bf16) (y : S2048x512.Idx) :
    k1_pay1 a w s ws b y
      = entry (fun k => a (ix2 (y 0) k)) (fun k => w (ix2 k (y 1))) s (ws (ix2 0 (y 1))) (b (ix2 0 (y 1))) := by
  unfold k1_pay1
  rw [shapeCast_self, shapeCast_self, shapeCast_self]
  rw [truncf_apply, addf_apply, mulf_apply, matmul_apply D rfl rfl lhs_0 lhs_1 rhs_0 rhs_1]
  rw [broadcastTo_apply _ broadcasts_S1x512_S2048x512 y (ix2 0 (y 1)) (by intro a; fin_cases a <;> rfl),
    broadcastTo_apply _ broadcasts_S1x512_S2048x512 y (ix2 0 (y 1)) (by intro a; fin_cases a <;> rfl)]
  rfl

/-- What the body leaves in the staging buffer of the product: its one store, of the loaded blocks. -/
theorem out_eq (c : Dev nD) (t : Fin cfg1.N) (x0 : Vec Ideal S1x1 .f32) (x1 : Vec Ideal S2048x3584 .fp8e4m3)
    (x2 : Vec Ideal S3584x512 .fp8e4m3) (x3 : Vec Ideal S1x512 .f32) (x4 : Vec Ideal S1x512 .bf16) :
    out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) x0 x1 x2 x3 x4
      = k1_pay1 x1 x2 (x0 (ix2 0 0)) x3 x4 := by
  unfold out1_A_5
  rw [View.read_writes_eq_canon _ _ _ (cover1_A_5 c (grid1.coords t) (ms1_0 t) (hs1_0 t) (ms1_1 t) (hs1_1 t) (ms1_2 t) (hs1_2 t) (ms1_3 t) (hs1_3 t) (ms1_4 t) (hs1_4 t) (ms1_5 t) (hs1_5 t) x0 x1 x2 x3 x4)]
  unfold kernelRun1_A
  dsimp only
  rw [View.canon_unit_zero zeros₂]
  sl_unfold_words
  simp only [View.readAt_eq_ld, (hs1_0 t).read_unread, (hs1_1 t).read_unread, (hs1_2 t).read_unread, (hs1_3 t).read_unread, (hs1_4 t).read_unread]
  rw [View.ld_unit_zero zeros₂, View.ld_unit_zero zeros₂, View.ld_unit_zero zeros₂, View.ld_unit_zero zeros₂, View.ld_unit_zero zeros₂]
  exact congrArg (fun s => k1_pay1 x1 x2 s x3 x4) (one_idx x0 _ _)

/-- The array of products as a function of the five arrays: the scale's, the codes', the weights', the columns' scales
    and the bias. -/
def product (s : S1x1.Idx → EReal) (a : S8192x3584.Idx → EReal) (w : S3584x18944.Idx → EReal) (ws b : S1x18944.Idx → EReal) :
    S8192x18944.Idx → EReal :=
  fun i => entry (fun k => a (ix2 (i 0) k)) (fun k => w (ix2 k (i 1))) (s (ix2 0 0)) (ws (ix2 0 (i 1))) (b (ix2 0 (i 1)))

/-- The windows' block indices at a point: the products' (row block, column block), the codes' its row block, the
    weights' and the two rows' its column block. -/
theorem idx_facts : ∀ t : Fin cfg1.N,
    win1_5.index t 0 = t.val / 37 ∧ win1_5.index t 1 = t.val % 37
    ∧ win1_1.index t 0 = t.val / 37 ∧ win1_1.index t 1 = 0
    ∧ win1_2.index t 0 = 0 ∧ win1_2.index t 1 = t.val % 37
    ∧ win1_3.index t 0 = 0 ∧ win1_3.index t 1 = t.val % 37
    ∧ win1_4.index t 0 = 0 ∧ win1_4.index t 1 = t.val % 37 :=
  (by decide +kernel : ∀ t : Fin grid1.N, _)

/-- What point `t` writes back is its block of `product`: rows of codes and columns of weights are whole in the blocks,
    so the block's entries are the array's. -/
theorem flushed_eq (c : Dev nD) (t : Fin cfg1.N) :
    (dat1 V c).flushed 5 t = (win1_5.blk t).view.read (Elt Ideal)
      (product (V c main_v0) (V c main_v2) (V c main_arg1) (V c main_v3) (V c main_v4)) := by
  show (cfg1.win 5).cut (grid1.coords t) ((dat1 V c).after 5 t) = _
  rw [after1_5]
  unfold outsAt1
  rw [out_eq]
  funext y
  refine (pay_apply _ _ _ _ _ _).trans ?_
  obtain ⟨e50, e51, e10, e11, e20, e21, e30, e31, e40, e41⟩ := idx_facts t
  have hy0 : ((win1_5.rect t).emb y 0 : Nat) = win1_5.index t 0 * 2048 + y 0 := win1_5.rect_emb_val t y 0
  have hy1 : ((win1_5.rect t).emb y 1 : Nat) = win1_5.index t 1 * 512 + y 1 := win1_5.rect_emb_val t y 1
  have ha : ∀ k : Fin 3584, iblk1 V c 1 t (ix2 (y 0) k) = V c main_v2 (ix2 ((win1_5.rect t).emb y 0) k) := fun k =>
    congrArg (V c main_v2) (Shape.idx_ext₂
      ((win1_1.rect_emb_val t (ix2 (y 0) k) 0).trans (by rw [e10, ← e50]; exact hy0.symm))
      (win1_1.rect_emb_val_of_index_zero t 1 e11 (ix2 (y 0) k)))
  have hw : ∀ k : Fin 3584, iblk1 V c 2 t (ix2 k (y 1)) = V c main_arg1 (ix2 k ((win1_5.rect t).emb y 1)) := fun k =>
    congrArg (V c main_arg1) (Shape.idx_ext₂
      (win1_2.rect_emb_val_of_index_zero t 0 e20 (ix2 k (y 1)))
      ((win1_2.rect_emb_val t (ix2 k (y 1)) 1).trans (by rw [e21, ← e51]; exact hy1.symm)))
  have hs : iblk1 V c 3 t (ix2 0 (y 1)) = V c main_v3 (ix2 0 ((win1_5.rect t).emb y 1)) :=
    congrArg (V c main_v3) (Shape.idx_ext₂
      (win1_3.rect_emb_val_of_index_zero t 0 e30 (ix2 0 (y 1)))
      ((win1_3.rect_emb_val t (ix2 0 (y 1)) 1).trans (by rw [e31, ← e51]; exact hy1.symm)))
  have hb : iblk1 V c 4 t (ix2 0 (y 1)) = V c main_v4 (ix2 0 ((win1_5.rect t).emb y 1)) :=
    congrArg (V c main_v4) (Shape.idx_ext₂
      (win1_4.rect_emb_val_of_index_zero t 0 e40 (ix2 0 (y 1)))
      ((win1_4.rect_emb_val t (ix2 0 (y 1)) 1).trans (by rw [e41, ← e51]; exact hy1.symm)))
  have h0 : iblk1 V c 0 t (ix2 0 0) = V c main_v0 (ix2 0 0) := one_idx (V c main_v0) _ _
  show _ = product (V c main_v0) (V c main_v2) (V c main_arg1) (V c main_v3) (V c main_v4) ((win1_5.rect t).emb y)
  unfold product
  simp only [ha, hw, hs, hb, h0]

/-- An index of the products is in point `t`'s block: 2048 rows by 512 columns. -/
theorem mem_blk (t : Fin cfg1.N) (i : S8192x18944.Idx) :
    i ∈ ((cfg1.win 5).blk t).view.set ↔ (t.val / 37 * 2048 ≤ (i 0 : Nat) ∧ (i 0 : Nat) < t.val / 37 * 2048 + 2048)
      ∧ (t.val % 37 * 512 ≤ (i 1 : Nat) ∧ (i 1 : Nat) < t.val % 37 * 512 + 512) := by
  show i ∈ ((View.whole main_v5).slice (win1_5.rect t)).set ↔ _
  rw [View.set_slice_whole, Rect.mem_set_unit]
  have e := idx_facts t
  refine ⟨fun h => ?_, fun h a => ?_⟩
  · have h0 : win1_5.index t 0 * 2048 ≤ (i 0 : Nat) ∧ (i 0 : Nat) < win1_5.index t 0 * 2048 + 2048 := h 0
    have h1 : win1_5.index t 1 * 512 ≤ (i 1 : Nat) ∧ (i 1 : Nat) < win1_5.index t 1 * 512 + 512 := h 1
    rw [e.1] at h0; rw [e.2.1] at h1; exact ⟨h0, h1⟩
  · match a with
    | ⟨0, _⟩ => show win1_5.index t 0 * 2048 ≤ (i 0 : Nat) ∧ (i 0 : Nat) < win1_5.index t 0 * 2048 + 2048
                rw [e.1]; exact h.1
    | ⟨1, _⟩ => show win1_5.index t 1 * 512 ≤ (i 1 : Nat) ∧ (i 1 : Nat) < win1_5.index t 1 * 512 + 512
                rw [e.2.1]; exact h.2

/-- The 4 by 37 blocks tile the array. -/
theorem cover (i : S8192x18944.Idx) :
    ∃ t : Fin cfg1.N, (cfg1.win 5).flush t = true ∧ i ∈ ((cfg1.win 5).blk t).view.set := by
  have h0 : (i 0 : Nat) < 8192 := (i 0).isLt
  have h1 : (i 1 : Nat) < 18944 := (i 1).isLt
  have hN : cfg1.N = 148 := N_1
  refine ⟨⟨(i 0 : Nat) / 2048 * 37 + (i 1 : Nat) / 512, by omega⟩, flush1_5 _, ?_⟩
  rw [mem_blk]
  dsimp only
  omega

/-- The array the second kernel leaves, from any entry contents. -/
theorem final (c : Dev nD) : (dat1 V c).arrAt 5 cfg1.N
    = product (V c main_v0) (V c main_v2) (V c main_arg1) (V c main_v3) (V c main_v4) :=
  (dat1 V c).arrAt_eq_of_cover 5 _ (fun t _ => flushed_eq V c t) cover

end Cert.KernelIdeal.Matmul

end
-- ==== Proof.KernelRun.lean ====
/-
  The kernel's run over the extended reals: from any memory it ends with the two results at `Spec.outputsOf` and
  `Spec.codesOf` of the arguments, and the arguments unchanged.
-/
module

public import proofs.«01_k».proof.Proof.Quant
public import proofs.«01_k».proof.Proof.Matmul

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.KernelIdeal.Run

open Cert.KernelIdeal Cert.KernelIdeal.Gen Cert.Spec Idealize.ShloMosaic.ValueIdx

variable (m : (ℓ : Loc nD τ sig) → Buf (Elt Ideal) ℓ) (ρ : Dev nD → PrngReg)

/-! ## What the host operations and the two kernels leave, buffer by buffer -/

/-- The scale as a one-by-one array, where the first kernel is entered. -/
theorem V1_scale (c : Dev nD) : V1 m ρ c main_v0 (ix2 0 0) = m ((c : Thread nD τ).loc main_arg3) ix0 := by
  have e : W1 m ρ c (Proc.devRef .tc main_v0) = shapeCast S1x1 (m ((c : Thread nD τ).loc main_arg3)) shapeCasts_S_S1x1 := by
    after_results
    rfl
  refine (congrFun e _).trans ?_
  exact congrArg (m ((c : Thread nD τ).loc main_arg3)) (eq_ix0 _)

/-- The activations without their leading axis, where the first kernel is entered. -/
theorem V1_acts (c : Dev nD) (r : Fin 8192) (k : Fin 3584) :
    V1 m ρ c main_v1 (ix2 r k) = m ((c : Thread nD τ).loc main_arg0) (ix3 0 r k) := by
  have e : W1 m ρ c (Proc.devRef .tc main_v1)
      = shapeCast S8192x3584 (m ((c : Thread nD τ).loc main_arg0)) shapeCasts_S1x8192x3584_S8192x3584 := by
    after_results
    rfl
  refine (congrFun e _).trans ((shapeCast_dropUnit_apply ![8192, 3584] _ _ (ix2 r k)).trans ?_)
  refine congrArg (m ((c : Thread nD τ).loc main_arg0)) ?_
  funext d; fin_cases d <;> rfl

/-- The codes, where the first kernel is left. -/
theorem W2_codes (c : Dev nD) : W2 m ρ c (Proc.devRef .tc main_v2) = Quant.codes (V1 m ρ c main_v0) (V1 m ρ c main_v1) :=
  (W2_arr m ρ c 2).trans (Quant.final (V1 m ρ) c)

/-- A code, where the first kernel is left. -/
theorem W2_codes_apply (c : Dev nD) (r : Fin 8192) (k : Fin 3584) :
    W2 m ρ c (Proc.devRef .tc main_v2) (ix2 r k)
      = code (m ((c : Thread nD τ).loc main_arg3) ix0) (m ((c : Thread nD τ).loc main_arg0) (ix3 0 r k)) := by
  refine (congrFun (W2_codes m ρ c) (ix2 r k)).trans ?_
  unfold Quant.codes
  rw [V1_scale, V1_acts]

/-- The second kernel is entered with the scale as the first was, -/
theorem V3_scale (c : Dev nD) : V3 m ρ c main_v0 (ix2 0 0) = m ((c : Thread nD τ).loc main_arg3) ix0 := by
  have e : W3 m ρ c (Proc.devRef .tc main_v0) = W1 m ρ c (Proc.devRef .tc main_v0) :=
    (W3_of m ρ c main_v0 (by decide)).trans (W2_of m ρ c main_v0 (by decide))
  exact (congrFun e _).trans (V1_scale m ρ c)

/-- with the first kernel's codes, -/
theorem V3_codes (c : Dev nD) (r : Fin 8192) (k : Fin 3584) :
    V3 m ρ c main_v2 (ix2 r k)
      = code (m ((c : Thread nD τ).loc main_arg3) ix0) (m ((c : Thread nD τ).loc main_arg0) (ix3 0 r k)) :=
  (congrFun (W3_of m ρ c main_v2 (by decide)) _).trans (W2_codes_apply m ρ c r k)

/-- with the weights as launched, -/
theorem V3_weights (c : Dev nD) : V3 m ρ c main_arg1 = m ((c : Thread nD τ).loc main_arg1) :=
  W3_args m ρ c main_arg1 (by decide)

/-- with the columns' scales as a row, -/
theorem V3_colScale (c : Dev nD) (n : Fin 18944) :
    V3 m ρ c main_v3 (ix2 0 n) = m ((c : Thread nD τ).loc main_arg2) (ix1 n) := by
  have e : W3 m ρ c (Proc.devRef .tc main_v3) = shapeCast S1x18944 (W2 m ρ c (Proc.devRef .tc main_arg2)) shapeCasts_S18944_S1x18944 := by
    after_results
    rfl
  refine (congrFun e _).trans ((shapeCast_addUnit_apply ![18944] _ _ (ix2 0 n)).trans ?_)
  rw [W2_args m ρ c main_arg2 (by decide)]
  exact congrArg (m ((c : Thread nD τ).loc main_arg2)) (eq_ix1 _)

/-- and with the bias as a row. -/
theorem V3_bias (c : Dev nD) (n : Fin 18944) :
    V3 m ρ c main_v4 (ix2 0 n) = m ((c : Thread nD τ).loc main_arg4) (ix1 n) := by
  have e : W3 m ρ c (Proc.devRef .tc main_v4) = shapeCast S1x18944 (W2 m ρ c (Proc.devRef .tc main_arg4)) shapeCasts_S18944_S1x18944 := by
    after_results
    rfl
  refine (congrFun e _).trans ((shapeCast_addUnit_apply ![18944] _ _ (ix2 0 n)).trans ?_)
  rw [W2_args m ρ c main_arg4 (by decide)]
  exact congrArg (m ((c : Thread nD τ).loc main_arg4)) (eq_ix1 _)

/-- The products, where the second kernel is left. -/
theorem W4_products (c : Dev nD) : W4 m ρ c (Proc.devRef .tc main_v5)
    = Matmul.product (V3 m ρ c main_v0) (V3 m ρ c main_v2) (V3 m ρ c main_arg1) (V3 m ρ c main_v3) (V3 m ρ c main_v4) :=
  (W4_arr m ρ c 5).trans (Matmul.final (V3 m ρ) c)

/-- A product, where the second kernel is left. -/
theorem W4_products_apply (c : Dev nD) (r : Fin 8192) (n : Fin 18944) : W4 m ρ c (Proc.devRef .tc main_v5) (ix2 r n)
    = outputsOf (m ((c : Thread nD τ).loc main_arg0)) (m ((c : Thread nD τ).loc main_arg1)) (m ((c : Thread nD τ).loc main_arg2))
        (m ((c : Thread nD τ).loc main_arg3)) (m ((c : Thread nD τ).loc main_arg4)) (ix3 0 r n) := by
  refine (congrFun (W4_products m ρ c) _).trans ?_
  show entry (fun k => V3 m ρ c main_v2 (ix2 r k)) (fun k => V3 m ρ c main_arg1 (ix2 k n)) (V3 m ρ c main_v0 (ix2 0 0))
    (V3 m ρ c main_v3 (ix2 0 n)) (V3 m ρ c main_v4 (ix2 0 n)) = _
  rw [V3_scale, V3_weights, V3_colScale, V3_bias]
  exact congrArg (fun a => entry a _ _ _ _) (funext fun k => V3_codes m ρ c r k)

/-- The first result: the outputs. -/
theorem W5_outputs (c : Dev nD) : W5 m ρ c (Proc.devRef .tc main_v6)
    = outputsOf (m ((c : Thread nD τ).loc main_arg0)) (m ((c : Thread nD τ).loc main_arg1)) (m ((c : Thread nD τ).loc main_arg2))
        (m ((c : Thread nD τ).loc main_arg3)) (m ((c : Thread nD τ).loc main_arg4)) := by
  have e : W5 m ρ c (Proc.devRef .tc main_v6)
      = shapeCast S1x8192x18944 (W4 m ρ c (Proc.devRef .tc main_v5)) shapeCasts_S8192x18944_S1x8192x18944 := by
    after_results
    rfl
  rw [e]
  funext i
  refine (shapeCast_addUnit_apply ![8192, 18944] _ _ i).trans ?_
  rw [eq_ix2 (fun a : Fin 2 => i a.succ)]
  exact W4_products_apply m ρ c (i 1) (i 2)

/-- The second result: the codes. -/
theorem W5_codes (c : Dev nD) : W5 m ρ c (Proc.devRef .tc main_v7)
    = codesOf (m ((c : Thread nD τ).loc main_arg0)) (m ((c : Thread nD τ).loc main_arg3)) := by
  have e : W5 m ρ c (Proc.devRef .tc main_v7)
      = shapeCast S1x8192x3584 (W4 m ρ c (Proc.devRef .tc main_v2)) shapeCasts_S8192x3584_S1x8192x3584 := by
    after_results
    rfl
  have e' : W4 m ρ c (Proc.devRef .tc main_v2) = W2 m ρ c (Proc.devRef .tc main_v2) :=
    (W4_of m ρ c main_v2 (by decide)).trans (W3_of m ρ c main_v2 (by decide))
  rw [e, e']
  funext i
  refine (shapeCast_addUnit_apply ![8192, 3584] _ _ i).trans ?_
  rw [eq_ix2 (fun a : Fin 2 => i a.succ)]
  exact W2_codes_apply m ρ c (i 1) (i 2)

/-! ## The run -/

local notation "𝕄" => MT nD τ sig Unit (Elt Ideal) ℕ (UR sig nD τ) ℕ

-- the launch theorem's implicit arguments are found by unifying its conclusion with this one, which takes unfolding
-- plain definitions in a metavariable's type
set_option backward.isDefEq.respectTransparency.types false in
/-- From any memory with zero counters the program ends with the outputs, the codes and the scale as its results, and
    the arguments as launched. -/
theorem run : θ_run defs (onTc (τ := τ) (main (F := Ideal))) ⟨m, fun _ => 0, ρ⟩ (fun r => ∀ c : Dev nD,
      r.2.mem ((c.tc : Thread nD τ).loc main_v6)
        = outputsOf (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_v7)
        = codesOf (m ((c : Thread nD τ).loc main_arg0)) (m ((c : Thread nD τ).loc main_arg3))
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v6 (by decide))).trans (W5_outputs m ρ c),
       (h c _ (mem_uc main_v7 (by decide))).trans (W5_codes m ρ c),
       (h c _ (mem_uc main_arg3 (by decide))).trans (W5_main_arg3 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.RefValue.lean ====
/-
  The reference's run over the extended reals: from any memory it ends with the two results at `Spec.outputsOf` and
  `Spec.codesOf` of the arguments, and the arguments unchanged.
-/
module

public import proofs.«01_k».proof.Proof.Gen.ReferenceIdeal.Frame
public import proofs.«01_k».proof.Proof.Spec

@[expose] public section

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Cert.Spec Idealize.ShloMosaic.ValueIdx

variable (m : (ℓ : Loc nD τ sig) → Buf (Elt Ideal) ℓ) (ρ : Dev nD → PrngReg)

/-! ## What the body stores, index by index -/

/-- The dimension numbers of the body's product, and the operands' indices coordinate by coordinate. -/
abbrev D := dot_S8192x3584_S3584x18944_S8192x18944_1_0_0_1_n_n

theorem lhs_0 (j : S8192x18944.Idx) (k : D.contr.Idx) : (D.lhsIdx j k 0 : ℕ) = j 0 := by
  simp [DotDims.lhsIdx, D, dot_S8192x3584_S3584x18944_S8192x18944_1_0_0_1_n_n]; rfl
theorem lhs_1 (j : S8192x18944.Idx) (k : D.contr.Idx) : (D.lhsIdx j k 1 : ℕ) = k ⟨0, by decide⟩ := by
  simp [DotDims.lhsIdx, D, dot_S8192x3584_S3584x18944_S8192x18944_1_0_0_1_n_n]; rfl
theorem rhs_0 (j : S8192x18944.Idx) (k : D.contr.Idx) : (D.rhsIdx j k 0 : ℕ) = k ⟨0, by decide⟩ := by
  simp [DotDims.rhsIdx, D, dot_S8192x3584_S3584x18944_S8192x18944_1_0_0_1_n_n]; rfl
theorem rhs_1 (j : S8192x18944.Idx) (k : D.contr.Idx) : (D.rhsIdx j k 1 : ℕ) = j 1 := by
  simp [DotDims.rhsIdx, D, dot_S8192x3584_S3584x18944_S8192x18944_1_0_0_1_n_n]; rfl

/-- The stored code. -/
theorem pay1_apply (s : Elt Ideal .f32) (x : Vec Ideal S8192x3584 .bf16) (y : S8192x3584.Idx) :
    k0_pay1 s x y = code s (x y) := by
  unfold k0_pay1
  rw [shapeCast_self]
  rfl

/-- The stored output. -/
theorem pay2_apply (s : Elt Ideal .f32) (x : Vec Ideal S8192x3584 .bf16) (w : Vec Ideal S3584x18944 .fp8e4m3)
    (ws : Vec Ideal S1x18944 .f32) (b : Vec Ideal S1x18944 .bf16) (y : S8192x18944.Idx) :
    k0_pay2 s x w ws b y
      = entry (fun k => code s (x (ix2 (y 0) k))) (fun k => w (ix2 k (y 1))) s (ws (ix2 0 (y 1))) (b (ix2 0 (y 1))) := by
  unfold k0_pay2
  rw [shapeCast_self, shapeCast_self]
  rw [truncf_apply, addf_apply, mulf_apply, matmul_apply D rfl rfl lhs_0 lhs_1 rhs_0 rhs_1]
  rw [broadcastTo_apply _ broadcasts_S1x18944_S8192x18944 y (ix2 0 (y 1)) (by intro a; fin_cases a <;> rfl),
    broadcastTo_apply _ broadcasts_S1x18944_S8192x18944 y (ix2 0 (y 1)) (by intro a; fin_cases a <;> rfl)]
  simp only [pay1_apply]
  rfl

/-! ## What the body leaves in its two outputs' staging buffers -/

/-- In the outputs' buffer: the stored output of the five blocks. -/
theorem out5_eq (c : Dev nD) (t : Fin cfg0.N) (x0 : Vec Ideal S1x1 .f32) (x1 : Vec Ideal S8192x3584 .bf16)
    (x2 : Vec Ideal S3584x18944 .fp8e4m3) (x3 : Vec Ideal S1x18944 .f32) (x4 : Vec Ideal S1x18944 .bf16) :
    out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4
      = k0_pay2 (x0 (ix2 0 0)) x1 x2 x3 x4 := by
  unfold out0_A_5
  rw [View.read_writes_eq_canon _ _ _ (cover0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4)]
  unfold kernelRun0_A
  dsimp only
  rw [View.canon_unit_zero zeros₂]
  sl_unfold_words
  simp only [View.readAt_eq_ld, (hs0_0 t).read_unread, (hs0_1 t).read_unread, (hs0_2 t).read_unread, (hs0_3 t).read_unread, (hs0_4 t).read_unread]
  rw [View.ld_unit_zero zeros₂, View.ld_unit_zero zeros₂, View.ld_unit_zero zeros₂, View.ld_unit_zero zeros₂, View.ld_unit_zero zeros₂]
  exact congrArg (fun s => k0_pay2 s x1 x2 x3 x4) (one_idx x0 _ _)

/-- In the codes' buffer: the stored code of the scale and the activations. -/
theorem out6_eq (c : Dev nD) (t : Fin cfg0.N) (x0 : Vec Ideal S1x1 .f32) (x1 : Vec Ideal S8192x3584 .bf16)
    (x2 : Vec Ideal S3584x18944 .fp8e4m3) (x3 : Vec Ideal S1x18944 .f32) (x4 : Vec Ideal S1x18944 .bf16) :
    out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4
      = k0_pay1 (x0 (ix2 0 0)) x1 := by
  unfold out0_A_6
  rw [View.read_writes_eq_canon _ _ _ (cover0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4)]
  unfold kernelRun0_A
  dsimp only
  rw [View.canon_unit_zero zeros₂]
  sl_unfold_words
  simp only [View.readAt_eq_ld, (hs0_0 t).read_unread, (hs0_1 t).read_unread]
  rw [View.ld_unit_zero zeros₂, View.ld_unit_zero zeros₂]
  exact congrArg (fun s => k0_pay1 s x1) (one_idx x0 _ _)

/-! ## The windows: each block is its whole array -/

/-- Window by window: a block's index is the array's index. -/
theorem emb_0 (t : Fin cfg0.N) (y : S1x1.Idx) : (win0_0.rect t).emb y = y :=
  Shape.idx_ext₂ (win0_0.rect_emb_val_of_index_zero t 0 rfl y) (win0_0.rect_emb_val_of_index_zero t 1 rfl y)
theorem emb_1 (t : Fin cfg0.N) (y : S8192x3584.Idx) : (win0_1.rect t).emb y = y :=
  Shape.idx_ext₂ (win0_1.rect_emb_val_of_index_zero t 0 rfl y) (win0_1.rect_emb_val_of_index_zero t 1 rfl y)
theorem emb_2 (t : Fin cfg0.N) (y : S3584x18944.Idx) : (win0_2.rect t).emb y = y :=
  Shape.idx_ext₂ (win0_2.rect_emb_val_of_index_zero t 0 rfl y) (win0_2.rect_emb_val_of_index_zero t 1 rfl y)
theorem emb_3 (t : Fin cfg0.N) (y : S1x18944.Idx) : (win0_3.rect t).emb y = y :=
  Shape.idx_ext₂ (win0_3.rect_emb_val_of_index_zero t 0 rfl y) (win0_3.rect_emb_val_of_index_zero t 1 rfl y)
theorem emb_4 (t : Fin cfg0.N) (y : S1x18944.Idx) : (win0_4.rect t).emb y = y :=
  Shape.idx_ext₂ (win0_4.rect_emb_val_of_index_zero t 0 rfl y) (win0_4.rect_emb_val_of_index_zero t 1 rfl y)
theorem emb_5 (t : Fin cfg0.N) (y : S8192x18944.Idx) : (win0_5.rect t).emb y = y :=
  Shape.idx_ext₂ (win0_5.rect_emb_val_of_index_zero t 0 rfl y) (win0_5.rect_emb_val_of_index_zero t 1 rfl y)
theorem emb_6 (t : Fin cfg0.N) (y : S8192x3584.Idx) : (win0_6.rect t).emb y = y :=
  Shape.idx_ext₂ (win0_6.rect_emb_val_of_index_zero t 0 rfl y) (win0_6.rect_emb_val_of_index_zero t 1 rfl y)

/-- So an input's block is its array's contents. -/
theorem iblk_0 (c : Dev nD) (t : Fin cfg0.N) : iblk m c 0 t = V m c main_v0 := funext fun y => congrArg (V m c main_v0) (emb_0 t y)
theorem iblk_1 (c : Dev nD) (t : Fin cfg0.N) : iblk m c 1 t = V m c main_v1 := funext fun y => congrArg (V m c main_v1) (emb_1 t y)
theorem iblk_2 (c : Dev nD) (t : Fin cfg0.N) : iblk m c 2 t = V m c main_arg1 := funext fun y => congrArg (V m c main_arg1) (emb_2 t y)
theorem iblk_3 (c : Dev nD) (t : Fin cfg0.N) : iblk m c 3 t = V m c main_v2 := funext fun y => congrArg (V m c main_v2) (emb_3 t y)
theorem iblk_4 (c : Dev nD) (t : Fin cfg0.N) : iblk m c 4 t = V m c main_v3 := funext fun y => congrArg (V m c main_v3) (emb_4 t y)

/-! ## The two arrays the kernel leaves -/

/-- The outputs' array, of the five arrays the kernel is given. -/
abbrev G5 (c : Dev nD) : S8192x18944.Idx → EReal :=
  k0_pay2 (V m c main_v0 (ix2 0 0)) (V m c main_v1) (V m c main_arg1) (V m c main_v2) (V m c main_v3)

/-- The codes' array. -/
abbrev G6 (c : Dev nD) : S8192x3584.Idx → EReal := k0_pay1 (V m c main_v0 (ix2 0 0)) (V m c main_v1)

/-- What is written back to the outputs' array is that array's block of `G5`. -/
theorem flushed5_eq (c : Dev nD) (t : Fin cfg0.N) :
    (dats m 0 c).flushed 5 t = (win0_5.blk t).view.read (Elt Ideal) (G5 m c) := by
  show (cfg0.win 5).cut (grid0.coords t) ((dats m 0 c).after 5 t) = _
  rw [after0_5]
  unfold outsAt0
  rw [iblk_0, iblk_1, iblk_2, iblk_3, iblk_4, out5_eq]
  exact funext fun y => (congrArg (G5 m c) (emb_5 t y)).symm

/-- What is written back to the codes' array is that array's block of `G6`. -/
theorem flushed6_eq (c : Dev nD) (t : Fin cfg0.N) :
    (dats m 0 c).flushed 6 t = (win0_6.blk t).view.read (Elt Ideal) (G6 m c) := by
  show (cfg0.win 6).cut (grid0.coords t) ((dats m 0 c).after 6 t) = _
  rw [after0_6]
  unfold outsAt0
  rw [iblk_0, iblk_1, iblk_2, iblk_3, iblk_4, out6_eq]
  exact funext fun y => (congrArg (G6 m c) (emb_6 t y)).symm

/-- Every output is in the block that is written back. -/
theorem cover5 (i : S8192x18944.Idx) : ∃ t : Fin cfg0.N, (cfg0.win 5).flush t = true ∧ i ∈ ((cfg0.win 5).blk t).view.set := by
  refine ⟨t0_0, flush0_5 _, ?_⟩
  show i ∈ ((View.whole main_v4_0).slice (win0_5.rect t0_0)).set
  rw [View.set_slice_whole, ← emb_5 t0_0 i]
  exact (win0_5.rect t0_0).idx_mem i

/-- Every code is in the block that is written back. -/
theorem cover6 (i : S8192x3584.Idx) : ∃ t : Fin cfg0.N, (cfg0.win 6).flush t = true ∧ i ∈ ((cfg0.win 6).blk t).view.set := by
  refine ⟨t0_0, flush0_6 _, ?_⟩
  show i ∈ ((View.whole main_v4_1).slice (win0_6.rect t0_0)).set
  rw [View.set_slice_whole, ← emb_6 t0_0 i]
  exact (win0_6.rect t0_0).idx_mem i

/-- So the kernel leaves `G5` in the outputs' array -/
theorem final5 (c : Dev nD) : (dats m 0 c).arrAt 5 cfg0.N = G5 m c :=
  (dats m 0 c).arrAt_eq_of_cover 5 _ (fun t _ => flushed5_eq m c t) cover5
/-- and `G6` in the codes' array. -/
theorem final6 (c : Dev nD) : (dats m 0 c).arrAt 6 cfg0.N = G6 m c :=
  (dats m 0 c).arrAt_eq_of_cover 6 _ (fun t _ => flushed6_eq m c t) cover6

/-! ## The arrays the kernel is given, from the arguments -/

/-- The scale as a one-by-one array. -/
theorem V_scale (c : Dev nD) : V m c main_v0 (ix2 0 0) = m ((c : Thread nD τ).loc main_arg3) ix0 := by
  have e : V0 m c (Proc.devRef .tc main_v0) = shapeCast S1x1 (m ((c : Thread nD τ).loc main_arg3)) shapeCasts_S_S1x1 := by
    unfold V0
    simp only [List.flatten_cons, List.flatten_nil, List.append_nil]
    after_results
    rfl
  refine (congrFun e _).trans ?_
  exact congrArg (m ((c : Thread nD τ).loc main_arg3)) (eq_ix0 _)

/-- The activations without their leading axis. -/
theorem V_acts (c : Dev nD) (r : Fin 8192) (k : Fin 3584) :
    V m c main_v1 (ix2 r k) = m ((c : Thread nD τ).loc main_arg0) (ix3 0 r k) := by
  have e : V0 m c (Proc.devRef .tc main_v1)
      = shapeCast S8192x3584 (m ((c : Thread nD τ).loc main_arg0)) shapeCasts_S1x8192x3584_S8192x3584 := by
    unfold V0
    simp only [List.flatten_cons, List.flatten_nil, List.append_nil]
    after_results
    rfl
  refine (congrFun e _).trans ((shapeCast_dropUnit_apply ![8192, 3584] _ _ (ix2 r k)).trans ?_)
  refine congrArg (m ((c : Thread nD τ).loc main_arg0)) ?_
  funext d; fin_cases d <;> rfl

/-- The columns' scales as a row. -/
theorem V_colScale (c : Dev nD) (n : Fin 18944) : V m c main_v2 (ix2 0 n) = m ((c : Thread nD τ).loc main_arg2) (ix1 n) := by
  have e : V0 m c (Proc.devRef .tc main_v2)
      = broadcastInDim S1x18944 ![1] bcast_S18944_S1x18944_1 (m ((c : Thread nD τ).loc main_arg2)) := by
    unfold V0
    simp only [List.flatten_cons, List.flatten_nil, List.append_nil]
    after_results
  refine (congrFun e _).trans ?_
  exact broadcastInDim_apply _ _ _ _ (ix1 n) (by intro a; fin_cases a; rfl)

/-- The bias as a row. -/
theorem V_bias (c : Dev nD) (n : Fin 18944) : V m c main_v3 (ix2 0 n) = m ((c : Thread nD τ).loc main_arg4) (ix1 n) := by
  have e : V0 m c (Proc.devRef .tc main_v3)
      = broadcastInDim S1x18944 ![1] bcast_S18944_S1x18944_1 (m ((c : Thread nD τ).loc main_arg4)) := by
    unfold V0
    simp only [List.flatten_cons, List.flatten_nil, List.append_nil]
    after_results
  refine (congrFun e _).trans ?_
  exact broadcastInDim_apply _ _ _ _ (ix1 n) (by intro a; fin_cases a; rfl)

/-- An output, from the arguments. -/
theorem G5_apply (c : Dev nD) (r : Fin 8192) (n : Fin 18944) : G5 m c (ix2 r n)
    = outputsOf (m ((c : Thread nD τ).loc main_arg0)) (m ((c : Thread nD τ).loc main_arg1)) (m ((c : Thread nD τ).loc main_arg2))
        (m ((c : Thread nD τ).loc main_arg3)) (m ((c : Thread nD τ).loc main_arg4)) (ix3 0 r n) := by
  refine (pay2_apply _ _ _ _ _ _).trans ?_
  show entry (fun k => code (V m c main_v0 (ix2 0 0)) (V m c main_v1 (ix2 r k))) (fun k => V m c main_arg1 (ix2 k n))
    (V m c main_v0 (ix2 0 0)) (V m c main_v2 (ix2 0 n)) (V m c main_v3 (ix2 0 n)) = _
  rw [V_scale, V_main_arg1, V_colScale, V_bias]
  exact congrArg (fun a => entry a _ _ _ _) (funext fun k => congrArg (code _) (V_acts m c r k))

/-- A code, from the arguments. -/
theorem G6_apply (c : Dev nD) (r : Fin 8192) (k : Fin 3584) : G6 m c (ix2 r k)
    = codesOf (m ((c : Thread nD τ).loc main_arg0)) (m ((c : Thread nD τ).loc main_arg3)) (ix3 0 r k) := by
  refine (pay1_apply _ _ _).trans ?_
  rw [V_scale, V_acts]
  rfl

/-! ## The two results, and the run -/

/-- Where the kernel is left, the outputs' array holds `G5`. -/
theorem tail_5 (c : Dev nD) : Pipeline.withArrays (cfgs 0).spec c (V0 m c) (fun w => (dats m 0 c).arrAt w (cfgs 0).N) (Proc.devRef .tc main_v4_0) = G5 m c :=
  (Pipeline.withArrays_arr spec0 launch0.win.arr_inj c _ _ 5).trans (final5 m c)
/-- And the codes' array holds `G6`. -/
theorem tail_6 (c : Dev nD) : Pipeline.withArrays (cfgs 0).spec c (V0 m c) (fun w => (dats m 0 c).arrAt w (cfgs 0).N) (Proc.devRef .tc main_v4_1) = G6 m c :=
  (Pipeline.withArrays_arr spec0 launch0.win.arr_inj c _ _ 6).trans (final6 m c)

/-- The first result: the outputs. -/
theorem outputs (c : Dev nD) : Pipeline.afterTail₀ cfgs (dats m) 0 (V0 m) [hostOps1] c main_v5
    = outputsOf (m ((c : Thread nD τ).loc main_arg0)) (m ((c : Thread nD τ).loc main_arg1)) (m ((c : Thread nD τ).loc main_arg2))
        (m ((c : Thread nD τ).loc main_arg3)) (m ((c : Thread nD τ).loc main_arg4)) := by
  have e : Pipeline.afterTail₀ cfgs (dats m) 0 (V0 m) [hostOps1] c main_v5
      = broadcastInDim S1x8192x18944 ![1, 2] bcast_S8192x18944_S1x8192x18944_1_2 (G5 m c) := by
    rw [← tail_5]
    unfold Pipeline.afterTail₀
    after_results
    rfl
  rw [e]
  funext i
  refine (broadcastInDim_apply _ _ _ i (ix2 (i 1) (i 2)) (by intro a; fin_cases a <;> rfl)).trans ?_
  exact G5_apply m c (i 1) (i 2)

/-- The second result: the codes. -/
theorem codes (c : Dev nD) : Pipeline.afterTail₀ cfgs (dats m) 0 (V0 m) [hostOps1] c main_v6
    = codesOf (m ((c : Thread nD τ).loc main_arg0)) (m ((c : Thread nD τ).loc main_arg3)) := by
  have e : Pipeline.afterTail₀ cfgs (dats m) 0 (V0 m) [hostOps1] c main_v6
      = broadcastInDim S1x8192x3584 ![1, 2] bcast_S8192x3584_S1x8192x3584_1_2 (G6 m c) := by
    rw [← tail_6]
    unfold Pipeline.afterTail₀
    after_results
    rfl
  rw [e]
  funext i
  refine (broadcastInDim_apply _ _ _ i (ix2 (i 1) (i 2)) (by intro a; fin_cases a <;> rfl)).trans ?_
  exact G6_apply m c (i 1) (i 2)

/-- From any memory with zero counters the reference ends with the outputs, the codes and the scale as its results, and
    the arguments as launched. -/
theorem run : θ_run defs (onTc (τ := τ) (main (F := Ideal))) ⟨m, fun _ => 0, ρ⟩ (fun r => ∀ c : Dev nD,
      r.2.mem ((c.tc : Thread nD τ).loc main_v5)
        = outputsOf (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_v6)
        = codesOf (m ((c : Thread nD τ).loc main_arg0)) (m ((c : Thread nD τ).loc main_arg3))
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v5 (Pipeline.mem_restRefs_of main_v5 (by decide) (by decide))).trans (outputs m c),
     ((h.1 c).2 main_v6 (Pipeline.mem_restRefs_of main_v6 (by decide) (by decide))).trans (codes m c),
     (h.2 c).2.2.2.1, (h.2 c).1, (h.2 c).2.1, (h.2 c).2.2.1, (h.2 c).2.2.2.1, (h.2 c).2.2.2.2⟩)
    (θ_run_and (run_main m ρ) (unchanged m ρ))

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Started from memories whose arguments agree, kernel and reference end with the same outputs, the same codes and the
    same scale, and both leave the arguments as launched. -/
theorem algebraic : Cert.algebraic_KernelIdeal_ReferenceIdeal := by
  intro m g m' g' _ hag
  refine ⟨fun c => Cert.Spec.outputsOf (m ((c.tc : Thread nD τ).loc Cert.KernelIdeal.main_arg0))
      (m ((c.tc : Thread nD τ).loc Cert.KernelIdeal.main_arg1)) (m ((c.tc : Thread nD τ).loc Cert.KernelIdeal.main_arg2))
      (m ((c.tc : Thread nD τ).loc Cert.KernelIdeal.main_arg3)) (m ((c.tc : Thread nD τ).loc Cert.KernelIdeal.main_arg4)),
    fun c => Cert.Spec.codesOf (m ((c.tc : Thread nD τ).loc Cert.KernelIdeal.main_arg0))
      (m ((c.tc : Thread nD τ).loc Cert.KernelIdeal.main_arg3)),
    fun c => m ((c.tc : Thread nD τ).loc Cert.KernelIdeal.main_arg3), Cert.KernelIdeal.Run.run m g, ?_⟩
  refine (θ_run _ _ _).mono (fun r h c => ?_) (Cert.ReferenceIdeal.RefValue.run m' g')
  obtain ⟨h0, h1, h2, h3, h4⟩ := hag c
  obtain ⟨y, q, s, a⟩ := h c
  refine ⟨y.trans ?_, q.trans ?_, s.trans h3, a⟩
  · exact by rw [h0, h1, h2, h3, h4]
  · exact by rw [h0, h3]

/-- All the claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
